-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_every_segment_named [hPre_every_segment_named : Cert.Pre_every_segment_named.Facts] (m : (ℓ : Loc Cert.KernelIdeal.nD Cert.KernelIdeal.τ Cert.KernelIdeal.sig) → Buf (Elt Ideal) ℓ) : Prop :=
  ∀ c : Dev Cert.KernelIdeal.nD,
    (Cert.Pre_every_segment_named.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_every_segment_named [hPre_every_segment_named : Cert.Pre_every_segment_named.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_every_segment_named.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_every_segment_named [hKernelIdeal : Cert.KernelIdeal.Facts] [hPre_every_segment_named : Cert.Pre_every_segment_named.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_every_segment_named m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_every_segment_named [hReferenceIdeal : Cert.ReferenceIdeal.Facts] [hPre_every_segment_named : Cert.Pre_every_segment_named.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_every_segment_named m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_every_segment_named [hKernelIdeal : Cert.KernelIdeal.Facts] [hReferenceIdeal : Cert.ReferenceIdeal.Facts] [hPre_every_segment_named : Cert.Pre_every_segment_named.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_every_segment_named m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_every_segment_named : Cert.Pre_every_segment_named.Facts),
    quiescent_Kernel (hKernel := hKernel)
    ∧ quiescent_KernelIdeal (hKernelIdeal := hKernelIdeal)
    ∧ quiescent_KernelIdeal_pre_every_segment_named (hKernelIdeal := hKernelIdeal) (hPre_every_segment_named := hPre_every_segment_named)
    ∧ quiescent_ReferenceIdeal (hReferenceIdeal := hReferenceIdeal)
    ∧ quiescent_ReferenceIdeal_pre_every_segment_named (hReferenceIdeal := hReferenceIdeal) (hPre_every_segment_named := hPre_every_segment_named)
    ∧ preserves_Kernel_KernelIdeal
    ∧ algebraic_KernelIdeal_ReferenceIdeal_pre_every_segment_named (hKernelIdeal := hKernelIdeal) (hReferenceIdeal := hReferenceIdeal) (hPre_every_segment_named := hPre_every_segment_named)
-- ==== Pre_every_segment_named.lean ====
abbrev S32768x512 : Shape := ⟨2, ![32768, 512]⟩
abbrev S32768 : Shape := ⟨1, ![32768]⟩
abbrev S512x2048 : Shape := ⟨2, ![512, 2048]⟩
abbrev S2048 : Shape := ⟨1, ![2048]⟩
abbrev S2048x2048 : Shape := ⟨2, ![2048, 2048]⟩
abbrev S2048x512 : Shape := ⟨2, ![2048, 512]⟩
abbrev S512 : Shape := ⟨1, ![512]⟩
abbrev S16 : Shape := ⟨1, ![16]⟩
abbrev S1x32768 : Shape := ⟨2, ![1, 32768]⟩
abbrev S16x1 : Shape := ⟨2, ![16, 1]⟩
abbrev S16x32768 : Shape := ⟨2, ![16, 32768]⟩
abbrev S_ : Shape := ⟨0, ![]⟩

class Facts : Prop where
  bcast_S32768_S1x32768_1 : S32768.BroadcastsInDim S1x32768 (![1] : Fin 1 → Fin S1x32768.rank)
  bcast_S16_S16x1_0 : S16.BroadcastsInDim S16x1 (![0] : Fin 1 → Fin S16x1.rank)
  bcast_S1x32768_S16x32768_0_1 : S1x32768.BroadcastsInDim S16x32768 (![0, 1] : Fin 2 → Fin S16x32768.rank)
  bcast_S16x1_S16x32768_0_1 : S16x1.BroadcastsInDim S16x32768 (![0, 1] : Fin 2 → Fin S16x32768.rank)
  reducesTo_S16x32768_S16_d1 : S16x32768.ReducesTo [1] S16
  h_S_ : 0 < S_.numel

variable [Facts]

def fn {F : FTy → Type} [FloatOps F] (main_arg0 : FVec F S32768x512 .f32) (main_arg1 : IVec S32768 32) (main_arg2 : FVec F S512x2048 .f32) (main_arg3 : FVec F S2048 .f32) (main_arg4 : FVec F S2048x2048 .f32) (main_arg5 : FVec F S2048 .f32) (main_arg6 : FVec F S2048x512 .f32) (main_arg7 : FVec F S512 .f32) : IVec S16 1 :=
  let main_v0 : IVec S16 32 := iotaInDim S16 32 0
  let main_v1 : IVec S1x32768 32 := broadcastInDim S1x32768 ![1] bcast_S32768_S1x32768_1 main_arg1
  let main_v2 : IVec S16x1 32 := broadcastInDim S16x1 ![0] bcast_S16_S16x1_0 main_v0
  let main_v3 : IVec S16x32768 32 := broadcastInDim S16x32768 ![0, 1] bcast_S1x32768_S16x32768_0_1 main_v1
  let main_v4 : IVec S16x32768 32 := broadcastInDim S16x32768 ![0, 1] bcast_S16x1_S16x32768_0_1 main_v2
  let main_v5 : IVec S16x32768 1 := cmpi .eq main_v3 main_v4
  let main_c : IVec S_ 1 := constantI S_ 1 0#1
  let main_v6 : IVec S16 1 := (fun x v => Host.reduce IntOp.ori x v reducesTo_S16x32768_S16_d1 h_S_) main_v5 main_c
  main_v6
-- ==== Kernel.lean ====
abbrev S32768x512 : Shape := ⟨2, ![32768, 512]⟩
abbrev S32768 : Shape := ⟨1, ![32768]⟩
abbrev S512x2048 : Shape := ⟨2, ![512, 2048]⟩
abbrev S2048 : Shape := ⟨1, ![2048]⟩
abbrev S2048x2048 : Shape := ⟨2, ![2048, 2048]⟩
abbrev S2048x512 : Shape := ⟨2, ![2048, 512]⟩
abbrev S512 : Shape := ⟨1, ![512]⟩
abbrev S16x1x2048 : Shape := ⟨3, ![16, 1, 2048]⟩
abbrev S1x2048 : Shape := ⟨2, ![1, 2048]⟩
abbrev S1x512 : Shape := ⟨2, ![1, 512]⟩
abbrev S16x512 : Shape := ⟨2, ![16, 512]⟩
abbrev S1x1x2048 : Shape := ⟨3, ![1, 1, 2048]⟩
abbrev S16x2048 : Shape := ⟨2, ![16, 2048]⟩
abbrev S16x128 : Shape := ⟨2, ![16, 128]⟩
abbrev S16 : Shape := ⟨1, ![16]⟩
abbrev S16x1 : Shape := ⟨2, ![16, 1]⟩
abbrev S1024x512 : Shape := ⟨2, ![1024, 512]⟩
abbrev S1024x2048 : Shape := ⟨2, ![1024, 2048]⟩
abbrev S16x1024 : Shape := ⟨2, ![16, 1024]⟩

abbrev nBuf : Space → Nat
  | .hbm => 13
  | .vmem => 13
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S512x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x512, .f32⟩
  | .hbm, ⟨7, _⟩ => ⟨S512, .f32⟩
  | .hbm, ⟨8, _⟩ => ⟨S16x1x2048, .i32⟩
  | .hbm, ⟨9, _⟩ => ⟨S1x2048, .f32⟩
  | .hbm, ⟨10, _⟩ => ⟨S1x2048, .f32⟩
  | .hbm, ⟨11, _⟩ => ⟨S1x512, .f32⟩
  | .hbm, ⟨12, _⟩ => ⟨S16x512, .f32⟩
  | .local _ .vmem, ⟨0, _⟩ => ⟨S1x1x2048, .i32⟩
  | .local _ .vmem, ⟨1, _⟩ => ⟨S1x1x2048, .i32⟩
  | .local _ .vmem, ⟨2, _⟩ => ⟨S2048x512, .f32⟩
  | .local _ .vmem, ⟨3, _⟩ => ⟨S2048x512, .f32⟩
  | .local _ .vmem, ⟨4, _⟩ => ⟨S512x2048, .f32⟩
  | .local _ .vmem, ⟨5, _⟩ => ⟨S1x2048, .f32⟩
  | .local _ .vmem, ⟨6, _⟩ => ⟨S2048x2048, .f32⟩
  | .local _ .vmem, ⟨7, _⟩ => ⟨S1x2048, .f32⟩
  | .local _ .vmem, ⟨8, _⟩ => ⟨S2048x512, .f32⟩
  | .local _ .vmem, ⟨9, _⟩ => ⟨S1x512, .f32⟩
  | .local _ .vmem, ⟨10, _⟩ => ⟨S16x512, .f32⟩
  | .local _ .vmem, ⟨11, _⟩ => ⟨S16x2048, .f32⟩
  | .local _ .vmem, ⟨12, _⟩ => ⟨S16x128, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v65 : BitVec 1 := Scalar.cmpi .eq arg0 c15_i32
  let v66 : BitVec 32 := Scalar.extui v65
  let c0_i32_41 : BitVec 32 := 0#32
  let v67 : BitVec 1 := Scalar.cmpi .ne v66 c0_i32_41
  v67

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== ReferenceIdeal.lean ====
abbrev S32768x512 : Shape := ⟨2, ![32768, 512]⟩
abbrev S32768 : Shape := ⟨1, ![32768]⟩
abbrev S512x2048 : Shape := ⟨2, ![512, 2048]⟩
abbrev S2048 : Shape := ⟨1, ![2048]⟩
abbrev S2048x2048 : Shape := ⟨2, ![2048, 2048]⟩
abbrev S2048x512 : Shape := ⟨2, ![2048, 512]⟩
abbrev S512 : Shape := ⟨1, ![512]⟩
abbrev S32768x2048 : Shape := ⟨2, ![32768, 2048]⟩
abbrev S1x2048 : Shape := ⟨2, ![1, 2048]⟩
abbrev S_ : Shape := ⟨0, ![]⟩
abbrev S1x512 : Shape := ⟨2, ![1, 512]⟩
abbrev S16x512 : Shape := ⟨2, ![16, 512]⟩
abbrev S32768x1 : Shape := ⟨2, ![32768, 1]⟩
abbrev S16 : Shape := ⟨1, ![16]⟩
abbrev S16x1 : Shape := ⟨2, ![16, 1]⟩

abbrev nBuf : Space → Nat
  | .hbm => 42
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768, .i32⟩
  | .hbm, ⟨2, _⟩ => ⟨S512x2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x512, .f32⟩
  | .hbm, ⟨7, _⟩ => ⟨S512, .f32⟩
  | .hbm, ⟨8, _⟩ => ⟨S32768x2048, .f32⟩
  | .hbm, ⟨9, _⟩ => ⟨S1x2048, .f32⟩
  | .hbm, ⟨10, _⟩ => ⟨S32768x2048, .f32⟩
  | .hbm, ⟨11, _⟩ => ⟨S32768x2048, .f32⟩
  | .hbm, ⟨12, _⟩ => ⟨S_, .f32⟩
  | .hbm, ⟨13, _⟩ => ⟨S32768x2048, .f32⟩
  | .hbm, ⟨14, _⟩ => ⟨S32768x2048, .f32⟩
  | .hbm, ⟨15, _⟩ => ⟨S32768x2048, .f32⟩
  | .hbm, ⟨16, _⟩ => ⟨S1x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S32768x512, .f32⟩
  | .hbm, ⟨23, _⟩ => ⟨S1x512, .f32⟩
  | .hbm, ⟨24, _⟩ => ⟨S32768x512, .f32⟩
  | .hbm, ⟨25, _⟩ => ⟨S32768x512, .f32⟩
  | .hbm, ⟨26, _⟩ => ⟨S_, .f32⟩
  | .hbm, ⟨27, _⟩ => ⟨S16x512, .f32⟩
  | .hbm, ⟨28, _⟩ => ⟨S32768x1, .i32⟩
  | .hbm, ⟨29, _⟩ => ⟨S16x512, .f32⟩
  | .hbm, ⟨30, _⟩ => ⟨S_, .f32⟩
  | .hbm, ⟨31, _⟩ => ⟨S32768, .f32⟩
  | .hbm, ⟨32, _⟩ => ⟨S_, .f32⟩
  | .hbm, ⟨33, _⟩ => ⟨S16, .f32⟩
  | .hbm, ⟨34, _⟩ => ⟨S32768x1, .i32⟩
  | .hbm, ⟨35, _⟩ => ⟨S16, .f32⟩
  | .hbm, ⟨36, _⟩ => ⟨S_, .f32⟩
  | .hbm, ⟨37, _⟩ => ⟨S16, .f32⟩
  | .hbm, ⟨38, _⟩ => ⟨S16, .f32⟩
  | .hbm, ⟨39, _⟩ => ⟨S16x1, .f32⟩
  | .hbm, ⟨40, _⟩ => ⟨S16x512, .f32⟩
  | .hbm, ⟨41, _⟩ => ⟨S16x512, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_0 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩

abbrev nD : Nat := 1
abbrev τ : Topo := Topo.v7x

variable {F : FTy → Type} [FloatOps F]
-- ==== Proof.Mean.lean ====
/- The equation between the two programs' results, over the extended reals and with no array in sight: a weighted
   contraction of per-segment means, plus an offset, is the per-segment mean of the contractions with the offset added.
   The kernel computes the left side (mean first, then the last linear layer); the reference the right side. -/
module

public import Idealize.ShloMosaic.Lib.IdealHost
public import Mathlib.Data.EReal.Operations
public import Mathlib.Data.EReal.Inv

@[expose] public section

noncomputable section

namespace Cert.Mean

open Idealize.ShloMosaic

/-- A sum of nonnegative extended reals, times any extended real, is the sum of the products. -/
theorem sum_mul_of_nonneg {ι : Type} (s : Finset ι) (a : ι → EReal) (ha : ∀ i, 0 ≤ a i) (w : EReal) :
    (∑ i ∈ s, a i) * w = ∑ i ∈ s, a i * w := by
  classical
  induction s using Finset.induction_on with
  | empty => simp
  | insert i s hi ih =>
    rw [Finset.sum_insert hi, Finset.sum_insert hi, EReal.right_distrib_of_nonneg (ha i) (Finset.sum_nonneg fun j _ => ha j), ih]

/-- A sum of any extended reals, times a nonnegative real number, is the sum of the products. -/
theorem sum_mul_of_finite {ι : Type} (s : Finset ι) (a : ι → EReal) (r : EReal) (h0 : 0 ≤ r) (ht : r ≠ ⊤) :
    (∑ i ∈ s, a i) * r = ∑ i ∈ s, a i * r := by
  classical
  induction s using Finset.induction_on with
  | empty => simp
  | insert i s hi ih =>
    rw [Finset.sum_insert hi, Finset.sum_insert hi, EReal.right_distrib_of_nonneg_of_ne_top h0 ht, ih]

/-- Adding 1 for every member that satisfies `p` and 0 for the others counts those that do. -/
theorem sum_indicator {T : ℕ} (p : Fin T → Prop) [DecidablePred p] :
    (∑ t, if p t then (1 : EReal) else 0) = ((Finset.univ.filter p).card : EReal) := by
  rw [← Finset.sum_filter, Finset.sum_const, EReal.nsmul_eq_mul, mul_one]

/-- A count of at least one is its own maximum with one. -/
theorem max_count (n : ℕ) (hn : 1 ≤ n) : max (n : EReal) 1 = (n : EReal) :=
  max_eq_left (by exact_mod_cast hn)

/-- Dividing by a count of at least one is multiplying by its inverse. -/
theorem div_count (x : EReal) (n : ℕ) (hn : 1 ≤ n) : Ideal.div x (n : EReal) = x * (n : EReal)⁻¹ := by
  have h : (n : EReal) ≠ 0 := by exact_mod_cast (by omega : n ≠ 0)
  unfold Ideal.div
  rw [if_neg h]

/-- A count of at least one times its inverse is one. -/
theorem count_mul_inv (n : ℕ) (hn : 1 ≤ n) : (n : EReal) * (n : EReal)⁻¹ = 1 := by
  have h : (n : ℝ) ≠ 0 := by exact_mod_cast (by omega : n ≠ 0)
  have e : (n : EReal) = ((n : ℝ) : EReal) := rfl
  rw [e, ← EReal.coe_inv, ← EReal.coe_mul, mul_inv_cancel₀ h]
  rfl

/-- `n` copies of any extended real, infinite ones included, divided by `n`, give it back. -/
theorem copies_div (b : EReal) (n : ℕ) (hn : 1 ≤ n) : (n • b) * (n : EReal)⁻¹ = b := by
  rw [EReal.nsmul_eq_mul, mul_comm (n : EReal) b, mul_assoc, count_mul_inv n hn, mul_one]

/-- The equation. Of tokens `t`, those with `p t` form the segment, and there is at least one; `f t k` is nonnegative (it
    is the output of a relu). Taking the segment's mean of `f` at every `k`, contracting the means with `w` and adding `b`
    equals the segment's mean of `∑ k, f t k * w k + b`. Nothing needs to be finite: the products distribute over the
    nonnegative `f`, and the division by a positive count over anything. -/
theorem project_mean {T K : ℕ} (p : Fin T → Prop) [DecidablePred p] (hp : ∃ t, p t) (f : Fin T → Fin K → EReal)
    (hf : ∀ t k, 0 ≤ f t k) (w : Fin K → EReal) (b : EReal) :
    (∑ k, Ideal.div (∑ t, (if p t then (1 : EReal) else 0) * f t k) (max (∑ t, if p t then (1 : EReal) else 0) 1) * w k) + b
      = Ideal.div (∑ t ∈ Finset.univ.filter p, ((∑ k, f t k * w k) + b)) (max (∑ _t ∈ Finset.univ.filter p, (1 : EReal)) 1) := by
  obtain ⟨t0, ht0⟩ := hp
  have hn : 1 ≤ (Finset.univ.filter p).card := Finset.card_pos.2 ⟨t0, Finset.mem_filter.2 ⟨Finset.mem_univ _, ht0⟩⟩
  have hcount : (∑ _t ∈ Finset.univ.filter p, (1 : EReal)) = ((Finset.univ.filter p).card : EReal) := by
    rw [Finset.sum_const, EReal.nsmul_eq_mul, mul_one]
  rw [sum_indicator, hcount, max_count _ hn, div_count _ _ hn]
  generalize hr : (((Finset.univ.filter p).card : ℕ) : EReal)⁻¹ = r
  have h0 : 0 ≤ r := by rw [← hr]; exact EReal.inv_nonneg_of_nonneg (by positivity)
  have ht : r ≠ ⊤ := by rw [← hr]; exact (EReal.inv_lt_top _).ne
  have hleft : ∀ k, Ideal.div (∑ t, (if p t then (1 : EReal) else 0) * f t k) ((Finset.univ.filter p).card : EReal) * w k
      = (∑ t ∈ Finset.univ.filter p, f t k * w k) * r := fun k => by
    rw [div_count _ _ hn, hr, mul_assoc, mul_comm r (w k), ← mul_assoc]
    congr 1
    rw [Finset.sum_congr rfl fun t _ => (ite_mul (p t) (1 : EReal) 0 (f t k)), ← sum_mul_of_nonneg _ _ (fun t => hf t k), Finset.sum_filter]
    simp only [one_mul, zero_mul]
  rw [Finset.sum_congr rfl fun k _ => hleft k, ← sum_mul_of_finite _ _ _ h0 ht, Finset.sum_comm, Finset.sum_add_distrib,
    EReal.right_distrib_of_nonneg_of_ne_top h0 ht, Finset.sum_const, ← hr, copies_div _ _ hn]

end Cert.Mean

end
-- ==== Proof.Steps.lean ====
/- What one grid point leaves in the two accumulators and in the output block, as the kernel's named payloads of the
   point's input blocks: the first point starts from zeros, every later one from what the point before left, and the
   last one also writes the output from the accumulators it has just updated. -/
module

public import proofs.«01_k».proof.Proof.Mean
public import proofs.«01_k».proof.Proof.Gen.KernelIdeal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Steps

open Cert.KernelIdeal Cert.KernelIdeal.Gen Idealize.ShloMosaic Idealize.ShloMosaic.TcCoe Idealize.SL.Sem

variable {F : FTy → Type} [FloatOps F]

/-- What a grid point stores in the accumulator of hidden rows, of its block of segment ids, its block of tokens, the two
    layers' weights and offsets, and the accumulator it found. The token block is used in two halves of 1024 rows. -/
def accAfter (seg : Vec F S1x1x2048 .i32) (x : Vec F S2048x512 .f32) (W1 : Vec F S512x2048 .f32) (b1 : Vec F S1x2048 .f32)
    (W2 : Vec F S2048x2048 .f32) (b2 : Vec F S1x2048 .f32) (found : Vec F S16x2048 .f32) : Vec F S16x2048 .f32 :=
  k0_pay8 (k0_pay3 seg) k0_pay5
    (k0_pay6 (View.ld x (Rect.unit ![0, 0] ![1024, 512] inb_S2048x512_S1024x512_0_0)) W1 b1 W2) (k0_pay7 b2)
    (View.ld x (Rect.unit ![1024, 0] ![1024, 512] inb_S2048x512_S1024x512_1024_0)) W1 b1 W2 b2 found

/-- What the last grid point writes to the output block, of the final accumulators, the last layer's weights and offset.
    The counts are read from the first column of their accumulator. -/
def outOf (cnt : Vec F S16x128 .f32) (acc : Vec F S16x2048 .f32) (W3 : Vec F S2048x512 .f32) (b3 : Vec F S1x512 .f32) :
    Vec F S16x512 .f32 :=
  k0_pay9 (View.ld cnt (Rect.unit ![0, 0] ![16, 1] inb_S16x128_S16x1_0_0)) acc W3 b3

variable (m : (ℓ : Loc nD τ sig) → Buf (Elt F) ℓ)

/-- The first grid point counts its tokens from zero. -/
theorem cnt_first (c : Dev nD) (t : Fin cfg0.N) (h0 : t.val % 16 = 0) (h1 : ¬t.val % 16 = 15) :
    (outsAt0 m c t.val t.isLt).2.2 = k0_pay4 (iblk m c 0 t) (k0_pay2 (F := F)) := by
  rw [outsAt0_A m c t h0 h1]; frame_out

/-- The first grid point sums its hidden rows from zero. -/
theorem acc_first (c : Dev nD) (t : Fin cfg0.N) (h0 : t.val % 16 = 0) (h1 : ¬t.val % 16 = 15) :
    (outsAt0 m c t.val t.isLt).2.1
      = accAfter (iblk m c 0 t) (iblk m c 1 t) (iblk m c 2 t) (iblk m c 3 t) (iblk m c 4 t) (iblk m c 5 t) (k0_pay1 (F := F)) := by
  rw [outsAt0_A m c t h0 h1]; frame_out; rfl

/-- A grid point that is neither first nor last adds its counts to those found. -/
theorem cnt_middle (c : Dev nD) (t : Fin cfg0.N) (h0 : ¬t.val % 16 = 0) (h1 : ¬t.val % 16 = 15) :
    (outsAt0 m c t.val t.isLt).2.2
      = k0_pay4 (iblk m c 0 t) (outsAt0 m c (t.val - 1) (lt_of_le_of_lt (Nat.sub_le _ _) t.isLt)).2.2 := by
  rw [outsAt0_B m c t h0 h1]; frame_out; rw [read_unread_whole]

/-- A grid point that is neither first nor last adds its hidden rows to those found. -/
theorem acc_middle (c : Dev nD) (t : Fin cfg0.N) (h0 : ¬t.val % 16 = 0) (h1 : ¬t.val % 16 = 15) :
    (outsAt0 m c t.val t.isLt).2.1
      = accAfter (iblk m c 0 t) (iblk m c 1 t) (iblk m c 2 t) (iblk m c 3 t) (iblk m c 4 t) (iblk m c 5 t)
          (outsAt0 m c (t.val - 1) (lt_of_le_of_lt (Nat.sub_le _ _) t.isLt)).2.1 := by
  rw [outsAt0_B m c t h0 h1]; frame_out; rw [read_unread_whole]; rfl

/-- The last grid point adds its counts to those found. -/
theorem cnt_last (c : Dev nD) (t : Fin cfg0.N) (h0 : ¬t.val % 16 = 0) (h1 : t.val % 16 = 15) :
    (outsAt0 m c t.val t.isLt).2.2
      = k0_pay4 (iblk m c 0 t) (outsAt0 m c (t.val - 1) (lt_of_le_of_lt (Nat.sub_le _ _) t.isLt)).2.2 := by
  rw [outsAt0_C m c t h0 h1]; frame_out; rw [read_unread_whole]

/-- The last grid point adds its hidden rows to those found. -/
theorem acc_last (c : Dev nD) (t : Fin cfg0.N) (h0 : ¬t.val % 16 = 0) (h1 : t.val % 16 = 15) :
    (outsAt0 m c t.val t.isLt).2.1
      = accAfter (iblk m c 0 t) (iblk m c 1 t) (iblk m c 2 t) (iblk m c 3 t) (iblk m c 4 t) (iblk m c 5 t)
          (outsAt0 m c (t.val - 1) (lt_of_le_of_lt (Nat.sub_le _ _) t.isLt)).2.1 := by
  rw [outsAt0_C m c t h0 h1]; frame_out; rw [read_unread_whole]; rfl

/-- The last grid point writes the output from the accumulators it leaves. -/
theorem out_last (c : Dev nD) (t : Fin cfg0.N) (h0 : ¬t.val % 16 = 0) (h1 : t.val % 16 = 15) :
    (outsAt0 m c t.val t.isLt).1
      = outOf (outsAt0 m c t.val t.isLt).2.2 (outsAt0 m c t.val t.isLt).2.1 (iblk m c 6 t) (iblk m c 7 t) := by
  rw [cnt_last m c t h0 h1, acc_last m c t h0 h1, outsAt0_C m c t h0 h1]; frame_out
  rw [read_unread_whole, read_unread_whole, View.readCov_fill _ _ _ _ _ (fun a => by fin_cases a <;> rfl)]
  rfl

/-- Every grid point but the first adds its counts to those found. -/
theorem cnt_later (c : Dev nD) (t : Fin cfg0.N) (h0 : ¬t.val % 16 = 0) :
    (outsAt0 m c t.val t.isLt).2.2
      = k0_pay4 (iblk m c 0 t) (outsAt0 m c (t.val - 1) (lt_of_le_of_lt (Nat.sub_le _ _) t.isLt)).2.2 :=
  if h1 : t.val % 16 = 15 then cnt_last m c t h0 h1 else cnt_middle m c t h0 h1

/-- Every grid point but the first adds its hidden rows to those found. -/
theorem acc_later (c : Dev nD) (t : Fin cfg0.N) (h0 : ¬t.val % 16 = 0) :
    (outsAt0 m c t.val t.isLt).2.1
      = accAfter (iblk m c 0 t) (iblk m c 1 t) (iblk m c 2 t) (iblk m c 3 t) (iblk m c 4 t) (iblk m c 5 t)
          (outsAt0 m c (t.val - 1) (lt_of_le_of_lt (Nat.sub_le _ _) t.isLt)).2.1 :=
  if h1 : t.val % 16 = 15 then acc_last m c t h0 h1 else acc_middle m c t h0 h1

end Cert.Steps

end
-- ==== Proof.Block.lean ====
/- One grid point's arithmetic over the extended reals, read at an index: the counts grow by the number of the block's
   tokens in the segment, the accumulator by the sum of those tokens' hidden rows, and the output is the last layer of the
   accumulator divided by the counts. -/
module

public import proofs.«01_k».proof.Proof.Steps

@[expose] public section

set_option maxRecDepth 16384

noncomputable section

namespace Cert.Block

open Cert.KernelIdeal Cert.KernelIdeal.Gen Idealize.ShloMosaic Idealize.ShloMosaic.TcCoe Idealize.SL.Sem
open Cert.Steps

/-- The two hidden layers of one token, at hidden unit `k`: `relu (relu (row @ W1 + b1) @ W2 + b2)`. -/
def hidden (row : Fin 512 → EReal) (W1 : Fin 512 → Fin 2048 → EReal) (b1 : Fin 2048 → EReal) (W2 : Fin 2048 → Fin 2048 → EReal)
    (b2 : Fin 2048 → EReal) (k : Fin 2048) : EReal :=
  max ((∑ j, max ((∑ i, row i * W1 i j) + b1 j) 0 * W2 j k) + b2 k) 0

/-- A hidden unit is nonnegative. -/
theorem hidden_nonneg (row : Fin 512 → EReal) (W1 : Fin 512 → Fin 2048 → EReal) (b1 : Fin 2048 → EReal)
    (W2 : Fin 2048 → Fin 2048 → EReal) (b2 : Fin 2048 → EReal) (k : Fin 2048) : 0 ≤ hidden row W1 b1 W2 b2 k :=
  le_max_right _ _

/-- Whether a token's id word names segment `s`, as a number: 1 or 0. -/
def names (w : BitVec 32) (s : Fin 16) : EReal := if w = BitVec.ofNat 32 s.val then 1 else 0

/-- The kernel's table of which token of the block is in which segment. -/
theorem onehot_apply (seg : Vec Ideal S1x1x2048 .i32) (s : Fin 16) (l : Fin 2048) :
    k0_pay3 (F := Ideal) seg (ix2 s l) = names (seg (ix3 0 0 l)) s := by
  pointwise [k0_pay3]
  unfold names
  by_cases h : seg (ix3 0 0 l) = BitVec.ofNat 32 s.val
  · rw [if_pos h, h, show IntOp.cmpi CmpIPredicate.eq (BitVec.ofNat 32 s.val) (BitVec.ofNat 32 s.val) = 1#1 by simp [IntOp.cmpi]]
    show ((((1#1).setWidth 32 : BitVec 32).toInt : ℝ) : EReal) = 1
    norm_num
  · rw [if_neg h, show IntOp.cmpi CmpIPredicate.eq (seg (ix3 0 0 l)) (BitVec.ofNat 32 s.val) = 0#1 by rw [WordCmp.cmpi_eq_eq, decide_eq_false h]; rfl]
    show ((((0#1).setWidth 32 : BitVec 32).toInt : ℝ) : EReal) = 0
    norm_num

/-- The counts after a grid point, at any of the 128 columns. -/
theorem cnt_apply (seg : Vec Ideal S1x1x2048 .i32) (found : Vec Ideal S16x128 .f32) (s : Fin 16) (q : Fin 128) :
    k0_pay4 (F := Ideal) seg found (ix2 s q) = found (ix2 s q) + ∑ l : Fin 2048, names (seg (ix3 0 0 l)) s := by
  have h : ∀ l, k0_pay3 (F := Ideal) seg (ix2 s l) = names (seg (ix3 0 0 l)) s := onehot_apply seg s
  pointwise [k0_pay4]
  exact congrArg (found (ix2 s q) + ·) (Finset.sum_congr rfl fun l _ => h l)

/-- The accumulator after a grid point, at a segment and a hidden unit. -/
theorem acc_apply (seg : Vec Ideal S1x1x2048 .i32) (x : Vec Ideal S2048x512 .f32) (W1 : Vec Ideal S512x2048 .f32)
    (b1 : Vec Ideal S1x2048 .f32) (W2 : Vec Ideal S2048x2048 .f32) (b2 : Vec Ideal S1x2048 .f32)
    (found : Vec Ideal S16x2048 .f32) (s : Fin 16) (k : Fin 2048) :
    accAfter (F := Ideal) seg x W1 b1 W2 b2 found (ix2 s k)
      = found (ix2 s k) + ∑ l : Fin 2048, names (seg (ix3 0 0 l)) s
          * hidden (fun i => x (ix2 l i)) (fun i j => W1 (ix2 i j)) (fun j => b1 (ix2 0 j)) (fun j k => W2 (ix2 j k)) (fun k => b2 (ix2 0 k)) k := by
  have h : ∀ s l, k0_pay3 (F := Ideal) seg (ix2 s l) = names (seg (ix3 0 0 l)) s := onehot_apply seg
  unfold accAfter
  generalize k0_pay3 (F := Ideal) seg = O at h ⊢
  pointwise [k0_pay8, k0_pay7, k0_pay6, k0_pay5]
  rw [Fin.sum_univ_two_halves 1024 1024 rfl]
  simp only [h, hidden]

/-- The output block, at a segment and an output unit. -/
theorem out_apply (cnt : Vec Ideal S16x128 .f32) (acc : Vec Ideal S16x2048 .f32) (W3 : Vec Ideal S2048x512 .f32)
    (b3 : Vec Ideal S1x512 .f32) (s : Fin 16) (o : Fin 512) :
    outOf (F := Ideal) cnt acc W3 b3 (ix2 s o)
      = (∑ k : Fin 2048, Ideal.div (acc (ix2 s k)) (max (cnt (ix2 s 0)) 1) * W3 (ix2 k o)) + b3 (ix2 0 o) := by
  unfold outOf
  pointwise [k0_pay9]

end Cert.Block

end
-- ==== Proof.Array.lean ====
/- What the kernel's result array holds, as a function of the argument arrays: the sixteen grid points' counts and sums
   put together over all 32768 tokens, then the last layer of their quotient. -/
module

public import proofs.«01_k».proof.Proof.Block

@[expose] public section

set_option maxRecDepth 16384

noncomputable section

namespace Cert.Array

open Cert.KernelIdeal Cert.KernelIdeal.Gen Idealize.ShloMosaic Idealize.ShloMosaic.TcCoe Idealize.SL.Sem
open Cert.Steps Cert.Block

/-- Which block of its array each window holds at a grid point: the segment ids' and the tokens' move with the point, the
    weights' and the offsets' stay. -/
theorem idx : ∀ t : Fin grid0.N,
    (win0_0.index t (0 : Fin 3) = t.val ∧ win0_0.index t (1 : Fin 3) = 0 ∧ win0_0.index t (2 : Fin 3) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0) := by decide +kernel

variable (m : (ℓ : Loc nD τ sig) → Buf (Elt Ideal) ℓ)

/-- The segment id words read by grid point `t` are those of its 2048 tokens. -/
theorem seg_read (c : Dev nD) (t : Fin grid0.N) (l : Fin 2048) (h : t.val * 2048 + l.val < 32768) :
    (iblk m c 0 t : Vec Ideal S1x1x2048 .i32) (ix3 0 0 l) = (m ((c : Thread nD τ).loc main_arg1) : Vec Ideal S32768 .i32) (ix1 ⟨t.val * 2048 + l.val, h⟩) := by
  blk_point [iblk, V, idx t]

/-- The token rows read by grid point `t` are those of its 2048 tokens. -/
theorem x_read (c : Dev nD) (t : Fin grid0.N) (l : Fin 2048) (i : Fin 512) (h : t.val * 2048 + l.val < 32768) :
    (iblk m c 1 t : Vec Ideal S2048x512 .f32) (ix2 l i) = (m ((c : Thread nD τ).loc main_arg0) : Vec Ideal S32768x512 .f32) (ix2 ⟨t.val * 2048 + l.val, h⟩ i) := by
  blk_point [iblk, V, idx t]

/-- Every grid point reads the whole first weight. -/
theorem W1_read (c : Dev nD) (t : Fin grid0.N) (i : Fin 512) (j : Fin 2048) :
    (iblk m c 2 t : Vec Ideal S512x2048 .f32) (ix2 i j) = (m ((c : Thread nD τ).loc main_arg2) : Vec Ideal S512x2048 .f32) (ix2 i j) := by
  blk_point [iblk, V, idx t]

/-- Every grid point reads the whole first offset. -/
theorem b1_read (c : Dev nD) (t : Fin grid0.N) (j : Fin 2048) :
    (iblk m c 3 t : Vec Ideal S1x2048 .f32) (ix2 0 j) = (m ((c : Thread nD τ).loc main_arg3) : Vec Ideal S2048 .f32) (ix1 j) := by
  blk_point [iblk, V, idx t]

/-- Every grid point reads the whole second weight. -/
theorem W2_read (c : Dev nD) (t : Fin grid0.N) (i : Fin 2048) (j : Fin 2048) :
    (iblk m c 4 t : Vec Ideal S2048x2048 .f32) (ix2 i j) = (m ((c : Thread nD τ).loc main_arg4) : Vec Ideal S2048x2048 .f32) (ix2 i j) := by
  blk_point [iblk, V, idx t]

/-- Every grid point reads the whole second offset. -/
theorem b2_read (c : Dev nD) (t : Fin grid0.N) (j : Fin 2048) :
    (iblk m c 5 t : Vec Ideal S1x2048 .f32) (ix2 0 j) = (m ((c : Thread nD τ).loc main_arg5) : Vec Ideal S2048 .f32) (ix1 j) := by
  blk_point [iblk, V, idx t]

/-- Every grid point reads the whole third weight. -/
theorem W3_read (c : Dev nD) (t : Fin grid0.N) (i : Fin 2048) (j : Fin 512) :
    (iblk m c 6 t : Vec Ideal S2048x512 .f32) (ix2 i j) = (m ((c : Thread nD τ).loc main_arg6) : Vec Ideal S2048x512 .f32) (ix2 i j) := by
  blk_point [iblk, V, idx t]

/-- Every grid point reads the whole third offset. -/
theorem b3_read (c : Dev nD) (t : Fin grid0.N) (j : Fin 512) :
    (iblk m c 7 t : Vec Ideal S1x512 .f32) (ix2 0 j) = (m ((c : Thread nD τ).loc main_arg7) : Vec Ideal S512 .f32) (ix1 j) := by
  blk_point [iblk, V, idx t]

/-- The hidden row of token `t` of the arrays given, at hidden unit `k`. -/
def hid (x : Vec Ideal S32768x512 .f32) (W1 : Vec Ideal S512x2048 .f32) (b1 : Vec Ideal S2048 .f32) (W2 : Vec Ideal S2048x2048 .f32)
    (b2 : Vec Ideal S2048 .f32) (t : Fin 32768) (k : Fin 2048) : EReal :=
  hidden (fun i => x (ix2 t i)) (fun i j => W1 (ix2 i j)) (fun j => b1 (ix1 j)) (fun j k => W2 (ix2 j k)) (fun k => b2 (ix1 k)) k

/-- After the last grid point the counts' accumulator holds, in every column, the number of tokens of each segment. -/
theorem cnt_total (c : Dev nD) (t : Fin cfg0.N) (ht : t.val + 1 = cfg0.N) (s : Fin 16) (q : Fin 128) :
    (outsAt0 m c t.val t.isLt).2.2 (ix2 s q) = ∑ t : Fin 32768, names ((m ((c : Thread nD τ).loc main_arg1) : Vec Ideal S32768 .i32) (ix1 t)) s := by
  have hz : ∀ i, k0_pay2 (F := Ideal) i = 0 := fun i => by pointwise [k0_pay2]
  rw [Pipeline.eq_sum_fin_of_reset_step_apply_last (fun n h (i : Fin 16 × Fin 128) => (outsAt0 m c n h).2.2 (ix2 i.1 i.2)) 16 (fun _ => 0)
    (fun t i => ∑ l : Fin 2048, names ((iblk m c 0 t : Vec Ideal S1x1x2048 .i32) (ix3 0 0 l)) i.1)
    (fun t h i => by rw [cnt_first m c t h (by omega), cnt_apply, hz])
    (fun t h i => by rw [cnt_later m c t h, cnt_apply])
    (le_of_eq N_0) t ht (s, q), zero_add]
  refine Fin.sum_mul_add_congr (fun t l hl => ?_) (by rw [show cfg0.N = 16 from N_0])
  rw [seg_read m c t l hl]

/-- After the last grid point the other accumulator holds the sum of each segment's hidden rows. -/
theorem acc_total (c : Dev nD) (t : Fin cfg0.N) (ht : t.val + 1 = cfg0.N) (s : Fin 16) (k : Fin 2048) :
    (outsAt0 m c t.val t.isLt).2.1 (ix2 s k)
      = ∑ t : Fin 32768, names ((m ((c : Thread nD τ).loc main_arg1) : Vec Ideal S32768 .i32) (ix1 t)) s
          * hid (m ((c : Thread nD τ).loc main_arg0)) (m ((c : Thread nD τ).loc main_arg2)) (m ((c : Thread nD τ).loc main_arg3))
              (m ((c : Thread nD τ).loc main_arg4)) (m ((c : Thread nD τ).loc main_arg5)) t k := by
  have hz : ∀ i, k0_pay1 (F := Ideal) i = 0 := fun i => by pointwise [k0_pay1]
  rw [Pipeline.eq_sum_fin_of_reset_step_apply_last (fun n h (i : Fin 16 × Fin 2048) => (outsAt0 m c n h).2.1 (ix2 i.1 i.2)) 16 (fun _ => 0)
    (fun t i => ∑ l : Fin 2048, names ((iblk m c 0 t : Vec Ideal S1x1x2048 .i32) (ix3 0 0 l)) i.1
      * hidden (fun a => (iblk m c 1 t : Vec Ideal S2048x512 .f32) (ix2 l a)) (fun a j => (iblk m c 2 t : Vec Ideal S512x2048 .f32) (ix2 a j))
          (fun j => (iblk m c 3 t : Vec Ideal S1x2048 .f32) (ix2 0 j)) (fun j k => (iblk m c 4 t : Vec Ideal S2048x2048 .f32) (ix2 j k))
          (fun k => (iblk m c 5 t : Vec Ideal S1x2048 .f32) (ix2 0 k)) i.2)
    (fun t h i => by rw [acc_first m c t h (by omega), acc_apply, hz])
    (fun t h i => by rw [acc_later m c t h, acc_apply])
    (le_of_eq N_0) t ht (s, k), zero_add]
  refine Fin.sum_mul_add_congr (fun t l hl => ?_) (by rw [show cfg0.N = 16 from N_0])
  unfold hid
  rw [seg_read m c t l hl]
  simp only [x_read m c t l _ hl, W1_read, b1_read, W2_read, b2_read]

/-- The kernel's result array at segment `s` and output unit `o`. -/
theorem result_apply (c : Dev nD) (s : Fin 16) (o : Fin 512) :
    (Cert.KernelIdeal.Value.G8 m c : Vec Ideal S16x512 .f32) (ix2 s o)
      = (∑ k : Fin 2048, Ideal.div
          (∑ t : Fin 32768, names ((m ((c : Thread nD τ).loc main_arg1) : Vec Ideal S32768 .i32) (ix1 t)) s
            * hid (m ((c : Thread nD τ).loc main_arg0)) (m ((c : Thread nD τ).loc main_arg2)) (m ((c : Thread nD τ).loc main_arg3))
                (m ((c : Thread nD τ).loc main_arg4)) (m ((c : Thread nD τ).loc main_arg5)) t k)
          (max (∑ t : Fin 32768, names ((m ((c : Thread nD τ).loc main_arg1) : Vec Ideal S32768 .i32) (ix1 t)) s) 1)
          * (m ((c : Thread nD τ).loc main_arg6) : Vec Ideal S2048x512 .f32) (ix2 k o))
        + (m ((c : Thread nD τ).loc main_arg7) : Vec Ideal S512 .f32) (ix1 o) := by
  obtain ⟨t, ht⟩ : ∃ t : Fin cfg0.N, t.val = 15 := ⟨⟨15, lt_of_lt_of_eq (by decide) N_0.symm⟩, rfl⟩
  have hl : t.val + 1 = cfg0.N := by rw [ht]; exact N_0.symm
  have hG : (Cert.KernelIdeal.Value.G8 m c : Vec Ideal S16x512 .f32) = (outsAt0 m c t.val t.isLt).1 := by
    rw [Cert.KernelIdeal.Value.G8_last, Cert.KernelIdeal.Value.outsAt0_sweep]
    congr 2
    exact ht.symm
  rw [hG, out_last m c t (by omega) (by omega), out_apply, cnt_total m c t hl, b3_read]
  simp only [acc_total m c t hl, W3_read]

end Cert.Array

end
-- ==== Proof.Ref.lean ====
/- The reference read at an index: the sum, over the tokens whose id word names the segment, of the three layers' output,
   divided by the larger of one and the number of those tokens. An id word that names none of the sixteen segments is
   dropped by the reference's scatter. -/
module

public import proofs.«01_k».proof.Proof.Array
public import proofs.«01_k».proof.Proof.Gen.ReferenceIdeal.Run
public import Idealize.ShloMosaic.Lib.Routing.OpsPair

@[expose] public section

set_option maxRecDepth 16384

noncomputable section

namespace Cert.Ref

open Cert.ReferenceIdeal Cert.ReferenceIdeal.Gen Idealize.ShloMosaic Idealize.ShloMosaic.TcCoe Idealize.SL.Sem
open Idealize.ShloMosaic.Routing

/-- A word read signed is the segment's number exactly when it is the segment's word. -/
theorem toInt_eq_iff (w : BitVec 32) (s : Fin 16) : w.toInt = (s.val : Int) ↔ w = BitVec.ofNat 32 s.val := by
  have e : ∀ s : Fin 16, (BitVec.ofNat 32 s.val).toInt = (s.val : Int) := by decide
  exact ⟨fun h => BitVec.eq_of_toInt_eq (h.trans (e s).symm), fun h => h ▸ e s⟩

/-- Where the scatter of token rows puts element `(t, o)`: at `(s, o)` when token `t`'s id word names `s`, nowhere otherwise. -/
theorem row_lands (idx : IVec S32768x1 32) (t : Fin 32768) (o : Fin 512) (s : Fin 16) (o' : Fin 512) :
    (scatter_S16x512_S32768x1_S32768x512_1_0_0_1).resultIdx? (ix2 t o) idx = some (ix2 s o')
      ↔ idx (ix2 t 0) = BitVec.ofNat 32 s.val ∧ o = o' := by
  have hstart0 : (scatter_S16x512_S32768x1_S32768x512_1_0_0_1).start (ix2 t o) idx 0 = (idx (ix2 t 0)).toInt := by
    unfold ScatterDims.start
    rw [dif_pos (by decide)]
    congr 2
    funext b
    apply Fin.ext
    fin_cases b <;> rfl
  have hstart1 : (scatter_S16x512_S32768x1_S32768x512_1_0_0_1).start (ix2 t o) idx 1 = 0 := by
    unfold ScatterDims.start
    rw [dif_neg (by decide)]
  have hwin0 : (scatter_S16x512_S32768x1_S32768x512_1_0_0_1).window (ix2 t o) 0 = 0 := by
    unfold ScatterDims.window
    rw [dif_neg (by decide)]
  have hwin1 : (scatter_S16x512_S32768x1_S32768x512_1_0_0_1).window (ix2 t o) 1 = o.val := by
    unfold ScatterDims.window
    rw [dif_pos (by decide)]
    rfl
  rw [resultIdx?_eq_some, ← toInt_eq_iff, Fin.ext_iff]
  refine Fin.forall_fin_two.trans ?_
  rw [hstart0, hstart1, hwin0, hwin1]
  show (_ + ((0 : ℕ) : Int) = (s.val : Int) ∧ 0 + (o.val : Int) = (o'.val : Int)) ↔ _
  omega

/-- Where the scatter of ones puts token `t`'s: at `s` when the token's id word names `s`, nowhere otherwise. -/
theorem one_lands (idx : IVec S32768x1 32) (t : Fin 32768) (s : Fin 16) :
    (scatter_S16_S32768x1_S32768_n_0_0_1).resultIdx? (ix1 t) idx = some (ix1 s) ↔ idx (ix2 t 0) = BitVec.ofNat 32 s.val := by
  have hstart0 : (scatter_S16_S32768x1_S32768_n_0_0_1).start (ix1 t) idx 0 = (idx (ix2 t 0)).toInt := by
    unfold ScatterDims.start
    rw [dif_pos (by decide)]
    congr 2
    funext b
    apply Fin.ext
    fin_cases b <;> rfl
  have hwin0 : (scatter_S16_S32768x1_S32768_n_0_0_1).window (ix1 t) 0 = 0 := by
    unfold ScatterDims.window
    rw [dif_neg (by decide)]
  rw [resultIdx?_eq_some, ← toInt_eq_iff]
  refine Fin.forall_fin_one.trans ?_
  rw [hstart0, hwin0]
  show _ + ((0 : ℕ) : Int) = (s.val : Int) ↔ _
  omega

/-- The reference's three layers, of every token. -/
def rows (x : FVec Ideal S32768x512 .f32) (W1 : FVec Ideal S512x2048 .f32) (b1 : FVec Ideal S2048 .f32) (W2 : FVec Ideal S2048x2048 .f32)
    (b2 : FVec Ideal S2048 .f32) (W3 : FVec Ideal S2048x512 .f32) (b3 : FVec Ideal S512 .f32) : FVec Ideal S32768x512 .f32 :=
  addf (Host.dotGeneral dot_S32768x2048_S2048x512_S32768x512_1_0_0_1_n_n none
      (maximumf (addf (Host.dotGeneral dot_S32768x2048_S2048x2048_S32768x2048_1_0_0_1_n_n none
          (maximumf (addf (Host.dotGeneral dot_S32768x512_S512x2048_S32768x2048_1_0_0_1_n_n none x W1)
              (broadcastInDim S32768x2048 ![0, 1] bcast_S1x2048_S32768x2048_0_1 (broadcastInDim S1x2048 ![1] bcast_S2048_S1x2048_1 b1)))
            (broadcastInDim S32768x2048 ![] bcast_S_S32768x2048 (constant S_ .f32 0x00000000#32))) W2)
          (broadcastInDim S32768x2048 ![0, 1] bcast_S1x2048_S32768x2048_0_1 (broadcastInDim S1x2048 ![1] bcast_S2048_S1x2048_1 b2)))
        (broadcastInDim S32768x2048 ![] bcast_S_S32768x2048 (constant S_ .f32 0x00000000#32))) W3)
    (broadcastInDim S32768x512 ![0, 1] bcast_S1x512_S32768x512_0_1 (broadcastInDim S1x512 ![1] bcast_S512_S1x512_1 b3))

/-- The reference's token counts per segment. -/
def counts (ids : IVec S32768 32) : FVec Ideal S16 .f32 :=
  Host.scatterAdd scatter_S16_S32768x1_S32768_n_0_0_1 (broadcastInDim S16 ![] bcast_S_S16 (constant S_ .f32 0x00000000#32))
    (broadcastInDim S32768x1 ![0] bcast_S32768_S32768x1_0 ids) (broadcastInDim S32768 ![] bcast_S_S32768 (constant S_ .f32 0x3F800000#32))

/-- The reference's sums of rows per segment. -/
def sums (ids : IVec S32768 32) (r : FVec Ideal S32768x512 .f32) : FVec Ideal S16x512 .f32 :=
  Host.scatterAdd scatter_S16x512_S32768x1_S32768x512_1_0_0_1 (broadcastInDim S16x512 ![] bcast_S_S16x512 (constant S_ .f32 0x00000000#32))
    (broadcastInDim S32768x1 ![0] bcast_S32768_S32768x1_0 ids) r

/-- The reference's result of its sums and counts. -/
def result (sum : FVec Ideal S16x512 .f32) (count : FVec Ideal S16 .f32) : FVec Ideal S16x512 .f32 :=
  Host.divf sum (broadcastInDim S16x512 ![0, 1] bcast_S16x1_S16x512_0_1 (broadcastInDim S16x1 ![0] bcast_S16_S16x1_0
    (maximumf count (broadcastInDim S16 ![] bcast_S_S16 (constant S_ .f32 0x3F800000#32)))))

/-- A token's row, read at an output unit. -/
theorem rows_apply (x : FVec Ideal S32768x512 .f32) (W1 : FVec Ideal S512x2048 .f32) (b1 : FVec Ideal S2048 .f32) (W2 : FVec Ideal S2048x2048 .f32)
    (b2 : FVec Ideal S2048 .f32) (W3 : FVec Ideal S2048x512 .f32) (b3 : FVec Ideal S512 .f32) (t : Fin 32768) (o : Fin 512) :
    rows x W1 b1 W2 b2 W3 b3 (ix2 t o) = (∑ k : Fin 2048, Cert.Array.hid x W1 b1 W2 b2 t k * W3 (ix2 k o)) + b3 (ix1 o) := by
  unfold Cert.Array.hid Cert.Block.hidden
  pointwise [rows]

/-- A segment's sum is over the tokens whose id word names it. -/
theorem sums_apply (ids : IVec S32768 32) (r : FVec Ideal S32768x512 .f32) (s : Fin 16) (o : Fin 512) :
    sums ids r (ix2 s o) = ∑ t ∈ Finset.univ.filter (fun t : Fin 32768 => ids (ix1 t) = BitVec.ofNat 32 s.val), r (ix2 t o) := by
  have hi : ∀ t : Fin 32768, broadcastInDim S32768x1 ![0] bcast_S32768_S32768x1_0 ids (ix2 t 0) = ids (ix1 t) := fun t => by pointwise
  have hz : (broadcastInDim S16x512 ![] bcast_S_S16x512 (constant (F := Ideal) S_ .f32 0x00000000#32)) (ix2 s o) = (0 : EReal) := by pointwise
  show (broadcastInDim S16x512 ![] bcast_S_S16x512 (constant (F := Ideal) S_ .f32 0x00000000#32)) (ix2 s o)
    + ∑ j ∈ Finset.univ.filter (fun j => (scatter_S16x512_S32768x1_S32768x512_1_0_0_1).resultIdx? j (broadcastInDim S32768x1 ![0] bcast_S32768_S32768x1_0 ids) = some (ix2 s o)), r j = _
  rw [hz, zero_add, Finset.sum_filter, Finset.sum_filter, sum_idx2]
  refine Finset.sum_congr rfl fun t _ => ?_
  simp only [row_lands, hi]
  by_cases h : ids (ix1 t) = BitVec.ofNat 32 s.val
  · simp [h]
  · simp [h]

/-- A segment's count is of the tokens whose id word names it. -/
theorem counts_apply (ids : IVec S32768 32) (s : Fin 16) :
    counts ids (ix1 s) = ∑ _t ∈ Finset.univ.filter (fun t : Fin 32768 => ids (ix1 t) = BitVec.ofNat 32 s.val), (1 : EReal) := by
  have hi : ∀ t : Fin 32768, broadcastInDim S32768x1 ![0] bcast_S32768_S32768x1_0 ids (ix2 t 0) = ids (ix1 t) := fun t => by pointwise
  have hz : (broadcastInDim S16 ![] bcast_S_S16 (constant (F := Ideal) S_ .f32 0x00000000#32)) (ix1 s) = (0 : EReal) := by pointwise
  have ho : ∀ t : Fin 32768, (broadcastInDim S32768 ![] bcast_S_S32768 (constant (F := Ideal) S_ .f32 0x3F800000#32)) (ix1 t) = (1 : EReal) :=
    fun t => by pointwise
  show (broadcastInDim S16 ![] bcast_S_S16 (constant (F := Ideal) S_ .f32 0x00000000#32)) (ix1 s)
    + ∑ j ∈ Finset.univ.filter (fun j => (scatter_S16_S32768x1_S32768_n_0_0_1).resultIdx? j (broadcastInDim S32768x1 ![0] bcast_S32768_S32768x1_0 ids) = some (ix1 s)), (broadcastInDim S32768 ![] bcast_S_S32768 (constant (F := Ideal) S_ .f32 0x3F800000#32)) j = _
  rw [hz, zero_add, Finset.sum_filter, Finset.sum_filter, sum_idx1]
  refine Finset.sum_congr rfl fun t _ => ?_
  simp only [one_lands, hi, ho]

/-- The result at a segment and an output unit. -/
theorem result_apply (sum : FVec Ideal S16x512 .f32) (count : FVec Ideal S16 .f32) (s : Fin 16) (o : Fin 512) :
    result sum count (ix2 s o) = Ideal.div (sum (ix2 s o)) (max (count (ix1 s)) 1) := by
  pointwise [result]

end Cert.Ref

end
-- ==== Proof.Named.lean ====
/- What the precondition says: of every one of the sixteen segments, some token's id word names it. -/
module

public import proofs.«01_k».proof.Proof.Ref
public import proofs.«01_k».proof.Proof.Gen.Pre_every_segment_named
public import Idealize.ShloMosaic.Lib.Routing.OpsOrder

@[expose] public section

set_option maxRecDepth 16384

noncomputable section

namespace Cert.Named

open Cert.Pre_every_segment_named Cert.Pre_every_segment_named.Gen Idealize.ShloMosaic

/-- The precondition all ones: every segment is named by a token. -/
theorem exists_token (x : FVec Ideal S32768x512 .f32) (ids : IVec S32768 32) (W1 : FVec Ideal S512x2048 .f32) (b1 : FVec Ideal S2048 .f32)
    (W2 : FVec Ideal S2048x2048 .f32) (b2 : FVec Ideal S2048 .f32) (W3 : FVec Ideal S2048x512 .f32) (b3 : FVec Ideal S512 .f32)
    (h : fn (F := Ideal) x ids W1 b1 W2 b2 W3 b3 = fun _ => 1#1) (s : Fin 16) : ∃ t : Fin 32768, ids (ix1 t) = BitVec.ofNat 32 s.val := by
  have hs := congrFun h (ix1 s)
  revert hs
  pointwise [fn]
  intro hs
  obtain ⟨t, -, ht⟩ := (Routing.fold_ori _ _).mp hs
  rw [WordCmp.cmpi_eq_eq] at ht
  refine ⟨t, by_contra fun hne => ?_⟩
  rw [decide_eq_false hne] at ht
  exact absurd ht (by decide)

end Cert.Named

end
-- ==== Proof.Equation.lean ====
/- The equation of the two results: on arguments that name every segment, the kernel's array is the reference's. -/
module

public import proofs.«01_k».proof.Proof.Named

@[expose] public section

set_option maxRecDepth 16384

noncomputable section

namespace Cert.Equation

open Cert.KernelIdeal Idealize.ShloMosaic Idealize.ShloMosaic.TcCoe Idealize.SL.Sem

/-- At every segment and output unit, the reference's result of the arguments is the array the kernel writes. -/
theorem result_eq (m : (ℓ : Loc nD τ sig) → Buf (Elt Ideal) ℓ) (c : Dev nD)
    (hs : ∀ s : Fin 16, ∃ t : Fin 32768, ((m ((c.tc : Thread nD τ).loc main_arg1)) : IVec S32768 32) (ix1 t) = BitVec.ofNat 32 s.val) :
    Cert.Ref.result
        (Cert.Ref.sums (m ((c.tc : Thread nD τ).loc main_arg1))
          (Cert.Ref.rows (m ((c.tc : Thread nD τ).loc main_arg0)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6))
            (m ((c.tc : Thread nD τ).loc main_arg7))))
        (Cert.Ref.counts (m ((c.tc : Thread nD τ).loc main_arg1)))
      = (Cert.KernelIdeal.Value.G8 m c : Vec Ideal S16x512 .f32) := by
  funext i
  obtain ⟨s, o, rfl⟩ : ∃ (s : Fin 16) (o : Fin 512), i = ix2 s o := ⟨i 0, i 1, (ix2_eta i).symm⟩
  rw [Cert.Ref.result_apply, Cert.Ref.sums_apply, Cert.Ref.counts_apply, Cert.Array.result_apply]
  simp only [Cert.Ref.rows_apply]
  unfold Cert.Block.names
  exact (Cert.Mean.project_mean _ (hs s) _ (fun t k => Cert.Block.hidden_nonneg _ _ _ _ _ k) _ _).symm

end Cert.Equation

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_every_segment_named
public import proofs.«01_k».proof.Proof.Gen.ReferenceIdeal.Run
public import Idealize.ShloMosaic.Adequacy
public import Idealize.ShloMosaic.Init
public import Idealize.ShloMosaic.Lib.Quiescent
public import proofs.«01_k».proof.Proof.Equation

@[expose] public section

noncomputable section

namespace Cert.Proof

open Idealize.ShloMosaic Idealize.SL.Sem

/-- The reference runs, keeps its arguments and leaves every counter at zero. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same on arguments that name every segment. -/
theorem quiescent_ReferenceIdeal_named : Cert.quiescent_ReferenceIdeal_pre_every_segment_named := fun m ρ _ =>
  quiescent_ReferenceIdeal m ρ trivial

/-- The kernel and the reference end with equal results on arguments that name every segment. -/
theorem algebraic_named : Cert.algebraic_KernelIdeal_ReferenceIdeal_pre_every_segment_named := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  obtain ⟨h0, h1, h2, h3, h4, h5, h6, h7⟩ := hagree c
  rw [h0, h1, h2, h3, h4, h5, h6, h7]
  exact Cert.Equation.result_eq m c (Cert.Named.exists_token _ _ _ _ _ _ _ _ (hpre c))

/-- Every claim of the certificate. -/
theorem claim : Cert.Claim := ⟨Cert.Kernel.Gen.facts, Cert.KernelIdeal.Gen.facts, Cert.ReferenceIdeal.Gen.facts, Cert.Pre_every_segment_named.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_named, (trivial : preserves_Kernel_KernelIdeal), algebraic_named⟩

end Cert.Proof

end
